-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fixed_tables [hPre_fixed_tables : Cert.Pre_fixed_tables.Facts] (m : (ℓ : Loc Cert.KernelIdeal.nD Cert.KernelIdeal.τ Cert.KernelIdeal.sig) → Buf (Elt Ideal) ℓ) : Prop :=
  ∀ c : Dev Cert.KernelIdeal.nD,
    (Cert.Pre_fixed_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fixed_tables [hPre_fixed_tables : Cert.Pre_fixed_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fixed_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fixed_tables [hKernelIdeal : Cert.KernelIdeal.Facts] [hPre_fixed_tables : Cert.Pre_fixed_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fixed_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fixed_tables [hReferenceIdeal : Cert.ReferenceIdeal.Facts] [hPre_fixed_tables : Cert.Pre_fixed_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fixed_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.sign_bit.MaskStatement Cert.KernelIdeal.S17x1024 .f32

def algebraic_KernelIdeal_ReferenceIdeal_pre_fixed_tables [hKernelIdeal : Cert.KernelIdeal.Facts] [hReferenceIdeal : Cert.ReferenceIdeal.Facts] [hPre_fixed_tables : Cert.Pre_fixed_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fixed_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fixed_tables : Cert.Pre_fixed_tables.Facts),
    quiescent_Kernel (hKernel := hKernel)
    ∧ quiescent_KernelIdeal (hKernelIdeal := hKernelIdeal)
    ∧ quiescent_KernelIdeal_pre_fixed_tables (hKernelIdeal := hKernelIdeal) (hPre_fixed_tables := hPre_fixed_tables)
    ∧ quiescent_ReferenceIdeal (hReferenceIdeal := hReferenceIdeal)
    ∧ quiescent_ReferenceIdeal_pre_fixed_tables (hReferenceIdeal := hReferenceIdeal) (hPre_fixed_tables := hPre_fixed_tables)
    ∧ preserves_Kernel_KernelIdeal
    ∧ algebraic_KernelIdeal_ReferenceIdeal_pre_fixed_tables (hKernelIdeal := hKernelIdeal) (hReferenceIdeal := hReferenceIdeal) (hPre_fixed_tables := hPre_fixed_tables)
-- ==== Pre_fixed_tables.lean ====
abbrev S256x256 : Shape := ⟨2, ![256, 256]⟩
abbrev S256x2048 : Shape := ⟨2, ![256, 2048]⟩
abbrev S17x2048 : Shape := ⟨2, ![17, 2048]⟩
abbrev S16 : Shape := ⟨1, ![16]⟩
abbrev S_ : Shape := ⟨0, ![]⟩

class Facts : Prop where
  bcast_S_S17x2048 : S_.BroadcastsInDim S17x2048 (![] : Fin 0 → Fin S17x2048.rank)
  bcast_S_S16 : S_.BroadcastsInDim S16 (![] : Fin 0 → Fin S16.rank)
  reducesTo_S17x2048_S_d0_1 : S17x2048.ReducesTo [0, 1] S_
  h_S_ : 0 < S_.numel
  reducesTo_S16_S_d0 : S16.ReducesTo [0] S_

variable [Facts]

def fn {F : FTy → Type} [FloatOps F] (main_arg0 : FVec F S256x256 .f32) (main_arg1 : FVec F S256x2048 .f32) (main_arg2 : FVec F S256x2048 .f32) (main_arg3 : FVec F S17x2048 .f32) (main_arg4 : FVec F S16 .f32) : IVec S_ 1 :=
  let main_cst : FVec F S_ .f32 := constant S_ .f32 0x3F800000#32
  let main_v0 : FVec F S17x2048 .f32 := broadcastInDim S17x2048 ![] bcast_S_S17x2048 main_cst
  let main_v1 : IVec S17x2048 1 := cmpf .oeq main_arg3 main_v0
  let main_cst_0 : FVec F S_ .f32 := constant S_ .f32 0xBF800000#32
  let main_v2 : FVec F S17x2048 .f32 := broadcastInDim S17x2048 ![] bcast_S_S17x2048 main_cst_0
  let main_v3 : IVec S17x2048 1 := cmpf .oeq main_arg3 main_v2
  let main_v4 : IVec S17x2048 1 := ori main_v1 main_v3
  let main_v5 : IVec S16 32 := iotaInDim S16 32 0
  let main_v6 : FVec F S16 .f32 := sitofp .f32 main_v5
  let main_cst_1 : FVec F S_ .f32 := constant S_ .f32 0x3E000000#32
  let main_v7 : FVec F S16 .f32 := broadcastInDim S16 ![] bcast_S_S16 main_cst_1
  let main_v8 : FVec F S16 .f32 := mulf main_v6 main_v7
  let main_cst_2 : FVec F S_ .f32 := constant S_ .f32 0xBF800000#32
  let main_v9 : FVec F S16 .f32 := broadcastInDim S16 ![] bcast_S_S16 main_cst_2
  let main_v10 : FVec F S16 .f32 := addf main_v9 main_v8
  let main_v11 : IVec S16 1 := cmpf .oeq main_arg4 main_v10
  let main_c : IVec S_ 1 := constantI S_ 1 1#1
  let main_v12 : IVec S_ 1 := (fun x v => Host.reduce IntOp.andi x v reducesTo_S17x2048_S_d0_1 h_S_) main_v4 main_c
  let main_c_3 : IVec S_ 1 := constantI S_ 1 1#1
  let main_v13 : IVec S_ 1 := (fun x v => Host.reduce IntOp.andi x v reducesTo_S16_S_d0 h_S_) main_v11 main_c_3
  let main_v14 : IVec S_ 1 := andi main_v12 main_v13
  main_v14
-- ==== Kernel.lean ====
abbrev S256x256 : Shape := ⟨2, ![256, 256]⟩
abbrev S256x2048 : Shape := ⟨2, ![256, 2048]⟩
abbrev S17x2048 : Shape := ⟨2, ![17, 2048]⟩
abbrev S16 : Shape := ⟨1, ![16]⟩
abbrev S256x1024 : Shape := ⟨2, ![256, 1024]⟩
abbrev S17x1024 : Shape := ⟨2, ![17, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S256x2048, .f32⟩
  | .hbm, ⟨3, _⟩ => ⟨S17x2048, .f32⟩
  | .hbm, ⟨4, _⟩ => ⟨S16, .f32⟩
  | .hbm, ⟨5, _⟩ => ⟨S256x2048, .f32⟩
  | .local _ .vmem, ⟨0, _⟩ => ⟨S256x256, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S17x1024, .f32⟩
  | .local _ .vmem, ⟨6, _⟩ => ⟨S17x1024, .f32⟩
  | .local _ .vmem, ⟨7, _⟩ => ⟨S256x1024, .f32⟩
  | .local _ .vmem, ⟨8, _⟩ => ⟨S256x1024, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S17x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S256x256 : Shape := ⟨2, ![256, 256]⟩
abbrev S256x2048 : Shape := ⟨2, ![256, 2048]⟩
abbrev S17x2048 : Shape := ⟨2, ![17, 2048]⟩
abbrev S16 : Shape := ⟨1, ![16]⟩
abbrev S_ : Shape := ⟨0, ![]⟩
abbrev S1x1x16 : Shape := ⟨3, ![1, 1, 16]⟩
abbrev S256x256x1 : Shape := ⟨3, ![256, 256, 1]⟩
abbrev S256x256x16 : Shape := ⟨3, ![256, 256, 16]⟩
abbrev S256x256x2048 : Shape := ⟨3, ![256, 256, 2048]⟩
abbrev S1x256x2048 : Shape := ⟨3, ![1, 256, 2048]⟩

abbrev nBuf : Space → Nat
  | .hbm => 56
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S256x2048, .f32⟩
  | .hbm, ⟨3, _⟩ => ⟨S17x2048, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S1x1x16, .f32⟩
  | .hbm, ⟨14, _⟩ => ⟨S256x256x1, .f32⟩
  | .hbm, ⟨15, _⟩ => ⟨S256x256x16, .f32⟩
  | .hbm, ⟨16, _⟩ => ⟨S256x256x16, .f32⟩
  | .hbm, ⟨17, _⟩ => ⟨S256x256x16, .i1⟩
  | .hbm, ⟨18, _⟩ => ⟨S256x256x16, .i32⟩
  | .hbm, ⟨19, _⟩ => ⟨S_, .i32⟩
  | .hbm, ⟨20, _⟩ => ⟨S256x256, .i32⟩
  | .hbm, ⟨21, _⟩ => ⟨S_, .i32⟩
  | .hbm, ⟨22, _⟩ => ⟨S256x256, .i32⟩
  | .hbm, ⟨23, _⟩ => ⟨S256x256, .i1⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S256x256, .i32⟩
  | .hbm, ⟨28, _⟩ => ⟨S256x256x1, .i32⟩
  | .hbm, ⟨29, _⟩ => ⟨S256x256x2048, .f32⟩
  | .hbm, ⟨30, _⟩ => ⟨S1x256x2048, .f32⟩
  | .hbm, ⟨31, _⟩ => ⟨S256x256x2048, .f32⟩
  | .hbm, ⟨32, _⟩ => ⟨S256x256x2048, .f32⟩
  | .hbm, ⟨33, _⟩ => ⟨S_, .f32⟩
  | .hbm, ⟨34, _⟩ => ⟨S256x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .i1⟩
  | .hbm, ⟨46, _⟩ => ⟨S_, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S_, .f32⟩
  | .hbm, ⟨53, _⟩ => ⟨S256x2048, .f32⟩
  | .hbm, ⟨54, _⟩ => ⟨S256x2048, .i1⟩
  | .hbm, ⟨55, _⟩ => ⟨S256x2048, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_cst_4 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_cst_8 : Ref sig .tc := ⟨.hbm, 47, rfl⟩
abbrev main_call2_v0 : Ref sig .tc := ⟨.hbm, 48, rfl⟩
abbrev main_call2_v1 : Ref sig .tc := ⟨.hbm, 49, rfl⟩
abbrev main_v22 : Ref sig .tc := ⟨.hbm, 50, rfl⟩
abbrev main_v23 : Ref sig .tc := ⟨.hbm, 51, rfl⟩
abbrev main_cst_9 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩

abbrev nD : Nat := 1
abbrev τ : Topo := Topo.v7x

variable {F : FTy → Type} [FloatOps F]
-- ==== Proof.Bins.lean ====
/- The level of a pixel. The kernel computes it by rounding up; the reference counts the boundaries below the
   clipped pixel. Both are the one number `bin`. -/
module

public import Idealize.ShloMosaic.Lib.Pointwise
public import Idealize.ShloMosaic.Lib.IdealHost

@[expose] public section

noncomputable section

namespace Cert.Proof

open Idealize.ShloMosaic

/-- The pixel clipped to the range from -1 to 1. -/
def clip (x : EReal) : EReal := min 1 (max (-1) x)

/-- The level boundary numbered `k`, which is -1 + k/8. -/
def edge (k : Fin 16) : EReal := ((-1 + (k.val : ℝ) / 8 : ℝ) : EReal)

/-- The level of a pixel: how many of the sixteen boundaries lie below the clipped pixel. -/
def bin (x : EReal) : Fin 17 :=
  ⟨(Finset.univ.filter fun k : Fin 16 => edge k < clip x).card,
    Nat.lt_succ_of_le ((Finset.card_le_univ _).trans (by simp))⟩

/-- Minus one as an extended real is the real minus one. -/
theorem neg_one_coe : (-1 : EReal) = ((-1 : ℝ) : EReal) := by rw [EReal.coe_neg, EReal.coe_one]

/-- A clipped pixel is a real number between -1 and 1. -/
theorem clip_real (x : EReal) : ∃ r : ℝ, clip x = (r : EReal) ∧ -1 ≤ r ∧ r ≤ 1 := by
  have hlo : ((-1 : ℝ) : EReal) ≤ clip x :=
    neg_one_coe ▸ le_min (by rw [neg_one_coe, ← EReal.coe_one, EReal.coe_le_coe_iff]; norm_num) (le_max_left _ _)
  have hhi : clip x ≤ ((1 : ℝ) : EReal) := min_le_left _ _
  have hb : clip x ≠ ⊥ := fun e => EReal.coe_ne_bot (-1) (le_bot_iff.1 (e ▸ hlo))
  have ht : clip x ≠ ⊤ := fun e => EReal.coe_ne_top 1 (top_le_iff.1 (e ▸ hhi))
  lift clip x to ℝ using ⟨ht, hb⟩ with r
  exact ⟨r, rfl, EReal.coe_le_coe_iff.1 hlo, EReal.coe_le_coe_iff.1 hhi⟩

/-- Among the sixteen boundary numbers, exactly `n` are below `n`, for `n` from 0 to 16. -/
theorem card_below (n : ℤ) (h0 : 0 ≤ n) (h1 : n ≤ 16) :
    ((Finset.univ.filter fun k : Fin 16 => ((k.val : ℕ) : ℤ) < n).card : ℤ) = n := by
  interval_cases n <;> rfl

/-- The level of a pixel whose clipped value is the real `r` is eight times `r` rounded up, plus eight. -/
theorem bin_eq (x : EReal) (r : ℝ) (hr : clip x = (r : EReal)) (h0 : -1 ≤ r) (h1 : r ≤ 1) :
    ((bin x).val : ℤ) = ⌈r * 8⌉ + 8 := by
  have e : (Finset.univ.filter fun k : Fin 16 => edge k < clip x)
      = Finset.univ.filter fun k : Fin 16 => ((k.val : ℕ) : ℤ) < ⌈r * 8⌉ + 8 := by
    refine Finset.filter_congr fun k _ => ?_
    rw [hr, edge, EReal.coe_lt_coe_iff, ← sub_lt_iff_lt_add, Int.lt_ceil]
    push_cast
    constructor <;> intro h <;> linarith
  have hlo : -8 ≤ ⌈r * 8⌉ := Int.le_ceil_iff.2 (by push_cast; linarith)
  have hhi : ⌈r * 8⌉ ≤ 8 := Int.ceil_le.2 (by push_cast; linarith)
  show (((Finset.univ.filter fun k : Fin 16 => edge k < clip x).card : ℕ) : ℤ) = _
  rw [e]
  exact card_below _ (by linarith) (by linarith)

/-- The kernel's level: eight times the clipped pixel, rounded up, plus eight, is the level as a number. -/
theorem ceil_bin (x : EReal) : Ideal.liftRound Int.ceil (clip x * ((8 : ℝ) : EReal)) + ((8 : ℝ) : EReal) = (((bin x).val : ℝ) : EReal) := by
  obtain ⟨r, hr, h0, h1⟩ := clip_real x
  have h := bin_eq x r hr h0 h1
  rw [hr, ← EReal.coe_mul]
  show ((⌈r * 8⌉ : ℝ) : EReal) + ((8 : ℝ) : EReal) = _
  rw [← EReal.coe_add]
  congr 1
  exact_mod_cast h.symm

/-- The 32-bit float patterns of the numbers 0 to 16, in order. -/
def pattern : Fin 17 → BitVec 32 :=
  ![0x00000000#32, 0x3F800000#32, 0x40000000#32, 0x40400000#32, 0x40800000#32, 0x40A00000#32, 0x40C00000#32,
    0x40E00000#32, 0x41000000#32, 0x41100000#32, 0x41200000#32, 0x41300000#32, 0x41400000#32, 0x41500000#32,
    0x41600000#32, 0x41700000#32, 0x41800000#32]

/-- Each of those patterns denotes its number. -/
theorem pattern_val (q : Fin 17) : Ideal.ofBits .f32 (pattern q) = ((q.val : ℝ) : EReal) := by
  fin_cases q <;> simp [pattern, Ideal.ofBits, Ideal.ieee, -EReal.coe_mul] <;> norm_num

/-- The float pattern of minus one denotes minus one. -/
theorem neg_one_val : Ideal.ofBits .f32 0xBF800000#32 = -1 := by
  rw [neg_one_coe]
  simp [Ideal.ofBits, Ideal.ieee, -EReal.coe_mul, -EReal.coe_neg]; norm_num

/-- The float pattern of one eighth denotes one eighth. -/
theorem eighth_val : Ideal.ofBits .f32 0x3E000000#32 = ((1 / 8 : ℝ) : EReal) := by
  simp [Ideal.ofBits, Ideal.ieee, -EReal.coe_mul]; norm_num

/-- A truth value widened to a word and converted to a float is 1 where it holds and 0 elsewhere. -/
theorem indicator_val (p : Prop) [Decidable p] :
    (FloatOps.sitofp .f32 (BitVec.setWidth 32 (BitVec.ofBool (decide p))) : Ideal .f32) = if p then (1 : EReal) else 0 := by
  rw [show (FloatOps.sitofp .f32 (BitVec.setWidth 32 (BitVec.ofBool (decide p))) : Ideal .f32)
      = (((BitVec.setWidth 32 (BitVec.ofBool (decide p))).toInt : ℝ) : EReal) from rfl]
  by_cases h : p <;> simp [h]

/-- The last stage on one sum `s` and one random number `r`: clip the sum, and fill a zero with a sign drawn by `r`. -/
def finish (s r : EReal) : EReal :=
  if clip s = 0 then (if r < Ideal.ofBits .f32 0x3F000000#32 then 1 else -1) else clip s

/-- A weight with the sign a level entry carries: negated where the entry is negative. -/
def signedBy (l w : EReal) : EReal := if l < 0 then 0 - w else w

/-- Summing over the levels the weights marked by the level each pixel has picks one weight per pixel. -/
theorem sum_marked {n : ℕ} (b : Fin n → Fin 17) (f : Fin 17 → Fin n → EReal) :
    ∑ q : Fin 17, ∑ i : Fin n, (if b i = q then (1 : EReal) else 0) * f q i = ∑ i : Fin n, f (b i) i := by
  rw [Finset.sum_comm]
  refine Finset.sum_congr rfl fun i _ => ?_
  simp [ite_mul]

end Cert.Proof

end
-- ==== Proof.Block.lean ====
/- What one block of the kernel computes, at every index: one step of the accumulation for any level, then the sum
   of the seventeen steps, then the last stage. -/
module

public import proofs.«01_k».proof.Proof.Gen.KernelIdeal.Value
public import proofs.«01_k».proof.Proof.Bins

@[expose] public section

set_option maxRecDepth 16384

noncomputable section

namespace Cert.Proof

open Idealize.ShloMosaic Cert.KernelIdeal Cert.KernelIdeal.Gen

/-- Every row of the level table is a slice the kernel may take. -/
theorem row_slice : ∀ q : Fin 17, S17x1024.Slices ![q.val, 0] S1x1024 := by decide

/-- The mask of the pixels at level `q`, as the kernel builds it: 1 where the level equals `q`. -/
def marks (q : Fin 17) (v : FVec Ideal S256x256 .f32) : FVec Ideal S256x256 .fp8e4m3 :=
  truncf .fp8e4m3 (sitofp .f32 (extui 32 (cmpf .oeq v (broadcast S256x256 (Scalar.ofBits .f32 (pattern q) : Ideal .f32)))
    Gen.natLt_1_32)) Gen.bitsLt_fp8e4m3_f32

/-- The weights of level `q`, as the kernel builds them: negated in the columns that row `q` of `s` marks. -/
def weights (q : Fin 17) (w : FVec Ideal S256x1024 .fp8e4m3) (s : IVec S17x1024 1) : FVec Ideal S256x1024 .fp8e4m3 :=
  select (broadcastTo S256x1024 (shapeCast S1x1024 (extractStridedSlice S1x1024 ![q.val, 0] s (row_slice q))
      Gen.shapeCasts_S1x1024_S1x1024) Gen.broadcasts_S1x1024_S256x1024)
    (subf (broadcast S256x1024 (Scalar.ofBits .fp8e4m3 0x00#8 : Ideal .fp8e4m3)) w) w

/-- One step: the product of the mask and the weights of level `q`. -/
def step (v : FVec Ideal S256x256 .f32) (w : FVec Ideal S256x1024 .fp8e4m3) (s : IVec S17x1024 1) (q : Fin 17) :
    FVec Ideal S256x1024 .f32 :=
  matmul dot_S256x256_S256x1024_S256x1024_1_0_0_1_n_n none (marks q v) (weights q w s) (constant S256x1024 .f32 0x00000000#32)

/-- The accumulation: the steps of all levels added in order to zero. -/
def total (v : FVec Ideal S256x256 .f32) (w : FVec Ideal S256x1024 .fp8e4m3) (s : IVec S17x1024 1) :
    FVec Ideal S256x1024 .f32 :=
  (List.finRange 17).foldl (fun acc q => addf acc (step v w s q))
    (broadcast S256x1024 (Scalar.ofBits .f32 0x00000000#32 : Ideal .f32))

/-- The last stage on a block: clip, and fill zeros with a drawn sign. -/
def tail (acc rand : FVec Ideal S256x1024 .f32) : FVec Ideal S256x1024 .f32 :=
  have lo : FVec Ideal S256x1024 .f32 := broadcast S256x1024 (Scalar.ofBits .f32 0xBF800000#32 : Ideal .f32)
  have hi : FVec Ideal S256x1024 .f32 := broadcast S256x1024 (Scalar.ofBits .f32 0x3F800000#32 : Ideal .f32)
  have c : FVec Ideal S256x1024 .f32 := minimumf hi (maximumf lo acc)
  select (cmpf .oeq c (broadcast S256x1024 (Scalar.ofBits .f32 0x00000000#32 : Ideal .f32)))
    (select (cmpf .olt rand (broadcast S256x1024 (Scalar.ofBits .f32 0x3F000000#32 : Ideal .f32))) hi lo) c

/-- The block the kernel stores is the last stage of the accumulation. -/
theorem out_eq (x0 : Vec Ideal S256x256 .f32) (x1 x2 : Vec Ideal S256x1024 .f32) (x3 : Vec Ideal S17x1024 .f32) :
    Gen.out0_4 x0 x1 x2 x3 = tail (total (k0_pay2 x0) (k0_pay3 x2) (k0_pay4 x3)) x1 := by
  have hz : (![0, 0] : Fin 2 → ℕ) = fun _ => 0 := by decide
  unfold_out out0_4
  rw [View.canon_unit_zero hz, View.ld_unit_zero hz, View.ld_unit_zero hz, View.ld_unit_zero hz, View.ld_unit_zero hz]
  rfl

/-- The kernel's level vector holds the level of each pixel. -/
theorem levels_apply (x : Vec Ideal S256x256 .f32) (a i : Fin 256) :
    k0_pay2 x (ix2 a i) = (((bin (x (ix2 a i))).val : ℝ) : EReal) := by
  pointwise [k0_pay2]
  have h8 : Ideal.ofBits .f32 0x41000000#32 = ((8 : ℝ) : EReal) := (pattern_val 8).trans (by norm_num)
  rw [← ceil_bin, clip, ← neg_one_val, ← h8]

/-- The kernel's sign mask marks the negative entries of the level table. -/
theorem signs_apply (x : Vec Ideal S17x1024 .f32) (q : Fin 17) (d : Fin 1024) :
    k0_pay4 x (ix2 q d) = BitVec.ofBool (decide (x (ix2 q d) < 0)) := by
  pointwise [k0_pay4]

/-- One step at an index, for every level: the weights, signed by the level's row, of the pixels at that level. -/
theorem step_apply (x0 : Vec Ideal S256x256 .f32) (x2 : Vec Ideal S256x1024 .f32) (x3 : Vec Ideal S17x1024 .f32)
    (q : Fin 17) (a : Fin 256) (d : Fin 1024) :
    step (k0_pay2 x0) (k0_pay3 x2) (k0_pay4 x3) q (ix2 a d)
      = ∑ i : Fin 256, (if bin (x0 (ix2 a i)) = q then (1 : EReal) else 0) * signedBy (x3 (ix2 q d)) (x2 (ix2 i d)) := by
  have key : ∀ (v : FVec Ideal S256x256 .f32) (w : FVec Ideal S256x1024 .fp8e4m3) (s : IVec S17x1024 1),
      step v w s q (ix2 a d) = ∑ i : Fin 256,
        (FloatOps.sitofp .f32 (BitVec.setWidth 32 (BitVec.ofBool (decide (v (ix2 a i) = Ideal.ofBits .f32 (pattern q))))) : Ideal .f32)
          * Scalar.select (s (ix2 q d)) (Ideal.ofBits .fp8e4m3 0#8 - w (ix2 i d)) (w (ix2 i d)) := by
    intro v w s
    pointwise [step, marks, weights]
  rw [key]
  refine Finset.sum_congr rfl fun i _ => ?_
  rw [indicator_val, levels_apply, signs_apply, pattern_val, Ideal.ofBits_zero]
  congr 1
  · refine if_congr ?_ rfl rfl
    rw [EReal.coe_eq_coe_iff, Nat.cast_inj, Fin.val_inj]
  · unfold signedBy
    by_cases h : x3 (ix2 q d) < 0 <;> simp [h, Scalar.select] <;> rfl

/-- Adding vectors one after another and reading the result at an index is the sum of the readings. -/
theorem foldl_addf_apply (f : Fin 17 → FVec Ideal S256x1024 .f32) (j : S256x1024.Idx) :
    ∀ (l : List (Fin 17)) (z : FVec Ideal S256x1024 .f32),
      l.foldl (fun acc q => addf acc (f q)) z j = z j + (l.map fun q => f q j).sum
  | [], z => by simp
  | q :: l, z => by
    rw [List.foldl_cons, foldl_addf_apply f j l, List.map_cons, List.sum_cons, ← add_assoc]
    rfl

/-- The accumulation at an index: every pixel of the row adds the weight signed by the row of its level. -/
theorem total_apply (x0 : Vec Ideal S256x256 .f32) (x2 : Vec Ideal S256x1024 .f32) (x3 : Vec Ideal S17x1024 .f32)
    (a : Fin 256) (d : Fin 1024) :
    total (k0_pay2 x0) (k0_pay3 x2) (k0_pay4 x3) (ix2 a d)
      = ∑ i : Fin 256, signedBy (x3 (ix2 (bin (x0 (ix2 a i))) d)) (x2 (ix2 i d)) := by
  rw [total, foldl_addf_apply, ← Fin.sum_univ_def,
    ← sum_marked (fun i => bin (x0 (ix2 a i))) fun q i => signedBy (x3 (ix2 q d)) (x2 (ix2 i d))]
  rw [Finset.sum_congr rfl fun q _ => step_apply x0 x2 x3 q a d]
  show Ideal.ofBits .f32 0x00000000#32 + _ = _
  rw [Ideal.ofBits_zero_f32, zero_add]

/-- The last stage at an index. -/
theorem tail_apply (acc rand : FVec Ideal S256x1024 .f32) (a : Fin 256) (d : Fin 1024) :
    tail acc rand (ix2 a d) = finish (acc (ix2 a d)) (rand (ix2 a d)) := by
  pointwise [tail]
  simp only [neg_one_val]
  rfl

/-- What the kernel stores in a block, at an index. -/
theorem out_apply (x0 : Vec Ideal S256x256 .f32) (x1 x2 : Vec Ideal S256x1024 .f32) (x3 : Vec Ideal S17x1024 .f32)
    (a : Fin 256) (d : Fin 1024) :
    Gen.out0_4 x0 x1 x2 x3 (ix2 a d)
      = finish (∑ i : Fin 256, signedBy (x3 (ix2 (bin (x0 (ix2 a i))) d)) (x2 (ix2 i d))) (x1 (ix2 a d)) := by
  rw [out_eq, tail_apply, total_apply]

end Cert.Proof

end
-- ==== Proof.Array.lean ====
/- What the result array holds after the kernel's run: the blocks of the two grid points put together, as one
   function of the argument arrays. -/
module

public import proofs.«01_k».proof.Proof.Block
public import Idealize.ShloMosaic.Lib.Pipeline.Value

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ)

/-- The result of the kernel as a function of the pixels `x`, the random numbers `r`, the weights `w` and the level
    table `l`. -/
def spec (x : Vec Ideal S256x256 .f32) (r w : Vec Ideal S256x2048 .f32) (l : Vec Ideal S17x2048 .f32) :
    Vec Ideal S256x2048 .f32 :=
  fun j => finish (∑ i : Fin 256, signedBy (l (ix2 (bin (x (ix2 (j 0) i))) (j 1))) (w (ix2 i (j 1)))) (r j)

/-- An index of a two-axis array is its pair of coordinates. -/
theorem exists_pair {p q : ℕ} (j : (⟨2, ![p, q]⟩ : Shape).Idx) : ∃ (a : Fin p) (d : Fin q), j = ix2 a d :=
  ⟨j 0, j 1, by funext b; match b with | ⟨0, _⟩ => rfl | ⟨1, _⟩ => rfl⟩

/-- Column `d` of block `t`, as a column of the whole array. -/
def col (t : Fin cfg0.N) (d : Fin 1024) : Fin 2048 :=
  ⟨t.val * 1024 + d.val, by rcases fin_N0 t with rfl | rfl <;> simp [t0_0, t0_1] <;> omega⟩

/-- Where block `t` of each window starts: the pixels' is the whole array, the others' is the `t`-th half of the columns. -/
theorem block_start (t : Fin cfg0.N) :
    (win0_0.index t = ![0, 0] ∧ win0_1.index t = ![0, t.val] ∧ win0_2.index t = ![0, t.val])
      ∧ win0_3.index t = ![0, t.val] ∧ win0_4.index t = ![0, t.val] := by
  rcases fin_N0 t with rfl | rfl <;> decide +kernel

/-- The pixels' block is the whole array. -/
theorem pixels_block (c : Dev nD) (t : Fin cfg0.N) (a i : Fin 256) :
    iblk m c 0 t (ix2 a i) = m ((c : Thread nD τ).loc main_arg0) (ix2 a i) := by
  refine congrArg (m ((c : Thread nD τ).loc main_arg0)) (funext fun b => Fin.ext ?_)
  match b with
  | ⟨0, _⟩ => show win0_0.index t 0 * 256 + 1 * a.val = a.val; simp [(block_start t).1.1]
  | ⟨1, _⟩ => show win0_0.index t 1 * 256 + 1 * i.val = i.val; simp [(block_start t).1.1]

/-- Block `t` of the random numbers is the `t`-th half of their columns. -/
theorem random_block (c : Dev nD) (t : Fin cfg0.N) (a : Fin 256) (d : Fin 1024) :
    iblk m c 1 t (ix2 a d) = m ((c : Thread nD τ).loc main_arg1) (ix2 a (col t d)) := by
  refine congrArg (m ((c : Thread nD τ).loc main_arg1)) (funext fun b => Fin.ext ?_)
  match b with
  | ⟨0, _⟩ => show win0_1.index t 0 * 256 + 1 * a.val = a.val; simp [(block_start t).1.2.1]
  | ⟨1, _⟩ => show win0_1.index t 1 * 1024 + 1 * d.val = t.val * 1024 + d.val; simp [(block_start t).1.2.1]

/-- Block `t` of the weights is the `t`-th half of their columns. -/
theorem weights_block (c : Dev nD) (t : Fin cfg0.N) (a : Fin 256) (d : Fin 1024) :
    iblk m c 2 t (ix2 a d) = m ((c : Thread nD τ).loc main_arg2) (ix2 a (col t d)) := by
  refine congrArg (m ((c : Thread nD τ).loc main_arg2)) (funext fun b => Fin.ext ?_)
  match b with
  | ⟨0, _⟩ => show win0_2.index t 0 * 256 + 1 * a.val = a.val; simp [(block_start t).1.2.2]
  | ⟨1, _⟩ => show win0_2.index t 1 * 1024 + 1 * d.val = t.val * 1024 + d.val; simp [(block_start t).1.2.2]

/-- Block `t` of the level table is the `t`-th half of its columns. -/
theorem levels_block (c : Dev nD) (t : Fin cfg0.N) (q : Fin 17) (d : Fin 1024) :
    iblk m c 3 t (ix2 q d) = m ((c : Thread nD τ).loc main_arg3) (ix2 q (col t d)) := by
  refine congrArg (m ((c : Thread nD τ).loc main_arg3)) (funext fun b => Fin.ext ?_)
  match b with
  | ⟨0, _⟩ => show win0_3.index t 0 * 17 + 1 * q.val = q.val; simp [(block_start t).2.1]
  | ⟨1, _⟩ => show win0_3.index t 1 * 1024 + 1 * d.val = t.val * 1024 + d.val; simp [(block_start t).2.1]

/-- The result array of device `c` as a function of its arguments. -/
def result (c : Dev nD) : Vec Ideal S256x2048 .f32 :=
  spec (m ((c : Thread nD τ).loc main_arg0)) (m ((c : Thread nD τ).loc main_arg1))
    (m ((c : Thread nD τ).loc main_arg2)) (m ((c : Thread nD τ).loc main_arg3))

/-- Where an element of the result's block `t` lies in the result array. -/
theorem place (t : Fin cfg0.N) (a : Fin 256) (d : Fin 1024) :
    (win0_4.blk t).view.emb (ix2 a d) = (ix2 a (col t d) : S256x2048.Idx) := by
  refine funext fun b => Fin.ext ?_
  match b with
  | ⟨0, _⟩ => show win0_4.index t 0 * 256 + 1 * a.val = a.val; simp [(block_start t).2.2]
  | ⟨1, _⟩ => show win0_4.index t 1 * 1024 + 1 * d.val = t.val * 1024 + d.val; simp [(block_start t).2.2]

/-- What grid point `t` writes back is block `t` of `result`. -/
theorem flushed_result (c : Dev nD) (t : Fin cfg0.N) :
    (dats m 0 c).flushed 4 t = (win0_4.blk t).view.read (Elt Ideal) (result m c) := by
  rw [Value.flushed4]
  funext j
  obtain ⟨a, d, rfl⟩ := exists_pair (p := 256) (q := 1024) j
  rw [View.read_apply, place]
  refine (out_apply (iblk m c 0 t) (iblk m c 1 t) (iblk m c 2 t) (iblk m c 3 t) a d).trans ?_
  rw [random_block]
  refine congrArg (finish · _) (Finset.sum_congr rfl fun i _ => ?_)
  rw [pixels_block, levels_block, weights_block]
  rfl

/-- Every column of the whole array is a column of one of the two blocks. -/
theorem exists_col (e : Fin 2048) : ∃ (t : Fin cfg0.N) (d : Fin 1024), col t d = e :=
  ⟨⟨e.val / 1024, by show _ < 2; omega⟩, ⟨e.val % 1024, Nat.mod_lt _ (by decide)⟩,
    Fin.ext (by show e.val / 1024 * 1024 + e.val % 1024 = e.val; omega)⟩

/-- Every element of the result array lies in the block of one of the two grid points. -/
theorem covered (i : S256x2048.Idx) : ∃ t : Fin cfg0.N, (cfg0.win 4).flush t = true ∧ i ∈ ((cfg0.win 4).blk t).view.set := by
  obtain ⟨a, e, rfl⟩ := exists_pair i
  obtain ⟨t, d, rfl⟩ := exists_col e
  refine ⟨t, flush0_4 t, ?_⟩
  rw [← place]
  exact View.emb_mem_set _ _

/-- After the run the result array holds `result`. -/
theorem final_result (c : Dev nD) : (dats m 0 c).arrAt 4 cfg0.N = result m c :=
  (dats m 0 c).arrAt_eq_of_cover 4 (result m c) (fun t _ => flushed_result m c t) covered

end Cert.Proof

end
-- ==== Proof.Reference.lean ====
/- What the reference computes, at every index: the count of boundaries below a pixel, the row of the level table
   that count picks, the sum of the products, then the last stage. -/
module

public import proofs.«01_k».proof.Proof.Gen.ReferenceIdeal.Run
public import proofs.«01_k».proof.Proof.Bins
public import Idealize.ShloMosaic.Lib.IndicatorCount

@[expose] public section

set_option maxRecDepth 16384

noncomputable section

namespace Cert.Proof

open Idealize.ShloMosaic Idealize.SL.Sem
open Cert.ReferenceIdeal Cert.ReferenceIdeal.Gen

/-- The comparison of every boundary with every clipped pixel. -/
def below (x : FVec Ideal S256x256 .f32) (e : FVec Ideal S16 .f32) : IVec S256x256x16 1 :=
  cmpf .olt
    (broadcastInDim S256x256x16 ![0, 1, 2] Gen.bcast_S1x1x16_S256x256x16_0_1_2 (broadcastInDim S1x1x16 ![2] Gen.bcast_S16_S1x1x16_2 e))
    (broadcastInDim S256x256x16 ![0, 1, 2] Gen.bcast_S256x256x1_S256x256x16_0_1_2
      (broadcastInDim S256x256x1 ![0, 1] Gen.bcast_S256x256_S256x256x1_0_1
        (minimumf (broadcastInDim S256x256 ![] Gen.bcast_S_S256x256 (constant S_ .f32 0x3F800000#32))
          (maximumf (broadcastInDim S256x256 ![] Gen.bcast_S_S256x256 (constant S_ .f32 0xBF800000#32)) x))))

/-- The number of boundaries below each pixel, as a word. -/
def counts (x : FVec Ideal S256x256 .f32) (e : FVec Ideal S16 .f32) : IVec S256x256 32 :=
  Host.reduce IntOp.addi (extui 32 (below x e) Gen.natLt_1_32) (constantI S_ 32 0#32) Gen.reducesTo_S256x256x16_S256x256_d2 Gen.h_S_

/-- The row number used to index the level table: a negative number would count from the end. -/
def rows (n : IVec S256x256 32) : IVec S256x256x1 32 :=
  broadcastInDim S256x256x1 ![0, 1] Gen.bcast_S256x256_S256x256x1_0_1
    (select (cmpi .slt n (broadcastInDim S256x256 ![] Gen.bcast_S_S256x256 (constantI S_ 32 0#32)))
      (addi n (broadcastInDim S256x256 ![] Gen.bcast_S_S256x256 (constantI S_ 32 17#32))) n)

/-- The picked rows of the level table. -/
def picked (l : FVec Ideal S17x2048 .f32) (n : IVec S256x256 32) : FVec Ideal S256x256x2048 .f32 :=
  Host.gather gather_S17x2048_S256x256x1_S256x256x2048_2_0_n_n_0_2_12048 l (rows n)

/-- The sums over the pixels of a row of the picked entries times the weights. -/
def sums (p : FVec Ideal S256x256x2048 .f32) (w : FVec Ideal S256x2048 .f32) : FVec Ideal S256x2048 .f32 :=
  Host.reduceAdd (mulf p (broadcastInDim S256x256x2048 ![0, 1, 2] Gen.bcast_S1x256x2048_S256x256x2048_0_1_2
    (broadcastInDim S1x256x2048 ![1, 2] Gen.bcast_S256x2048_S1x256x2048_1_2 w)))
    (constant S_ .f32 0x00000000#32) Gen.reducesTo_S256x256x2048_S256x2048_d1 Gen.h_S_

/-- The last stage on the whole array: clip, and fill zeros with a drawn sign. -/
def last (s r : FVec Ideal S256x2048 .f32) : FVec Ideal S256x2048 .f32 :=
  have c : FVec Ideal S256x2048 .f32 := minimumf (broadcastInDim S256x2048 ![] Gen.bcast_S_S256x2048 (constant S_ .f32 0x3F800000#32))
    (maximumf (broadcastInDim S256x2048 ![] Gen.bcast_S_S256x2048 (constant S_ .f32 0xBF800000#32)) s)
  select (cmpf .oeq c (broadcastInDim S256x2048 ![] Gen.bcast_S_S256x2048 (constant S_ .f32 0x00000000#32)))
    (select (cmpf .olt r (broadcastInDim S256x2048 ![] Gen.bcast_S_S256x2048 (constant S_ .f32 0x3F000000#32)))
      (broadcastInDim S256x2048 ![] Gen.bcast_S_S256x2048 (constant S_ .f32 0x3F800000#32))
      (broadcastInDim S256x2048 ![] Gen.bcast_S_S256x2048 (constant S_ .f32 0xBF800000#32))) c

/-- The reference's result is its stages put together. -/
theorem reference_eq (m : (ℓ : Loc nD τ sig) → Buf (Elt Ideal) ℓ) (c : Dev nD) :
    Value.res_out0 m c
      = last (sums (picked (m ((c.tc : Thread nD τ).loc main_arg3))
            (counts (m ((c.tc : Thread nD τ).loc main_arg0)) (m ((c.tc : Thread nD τ).loc main_arg4))))
          (m ((c.tc : Thread nD τ).loc main_arg2))) (m ((c.tc : Thread nD τ).loc main_arg1)) := by
  unfold Value.res_out0 Value.res_main_v26
  rfl

/-- The comparison at an index. -/
theorem below_apply (x : FVec Ideal S256x256 .f32) (e : FVec Ideal S16 .f32) (a i : Fin 256) (k : Fin 16) :
    below x e (ix3 a i k) = BitVec.ofBool (decide (e (ix1 k) < clip (x (ix2 a i)))) := by
  pointwise [below]
  rw [clip, ← neg_one_val]

/-- With the boundaries at their places, the count is the level of the pixel. -/
theorem counts_apply (x : FVec Ideal S256x256 .f32) (e : FVec Ideal S16 .f32) (he : ∀ k : Fin 16, e (ix1 k) = edge k)
    (a i : Fin 256) : counts x e (ix2 a i) = BitVec.ofNat 32 (bin (x (ix2 a i))).val := by
  have hred : S256x256x16.Reduces [2] S256x256 := by decide
  rw [counts, Host.reduce_eq_fold_single IntOp.addi _ _ _ hred]
  have hlift : ∀ k : Fin 16, hred.lift (ix2 a i) k = ix3 a i k := fun k => by
    funext b; match b with | ⟨0, _⟩ => rfl | ⟨1, _⟩ => rfl | ⟨2, _⟩ => rfl
  refine (IndicatorCount.fold_addi_setWidth_eq_card (fun k : Fin 16 => below x e (hred.lift (ix2 a i) k)) Finset.univ).trans ?_
  refine congrArg (fun s : Finset (Fin 16) => BitVec.ofNat 32 s.card) (Finset.filter_congr fun k _ => ?_)
  rw [hlift, below_apply, he]
  by_cases h : edge k < clip (x (ix2 a i)) <;> simp [h]

/-- Where the row numbers are a level `q`, it is the row `q` that is picked. -/
theorem rows_apply (n : IVec S256x256 32) (a i : Fin 256) (q : Fin 17) (hq : n (ix2 a i) = BitVec.ofNat 32 q.val) :
    rows n (ix3 a i (0 : Fin 1)) = BitVec.ofNat 32 q.val := by
  pointwise [rows]
  rw [hq]
  clear hq
  revert q
  decide

/-- Picking a row of the table, at an index. -/
theorem picked_apply (l : FVec Ideal S17x2048 .f32) (n : IVec S256x256 32) (a i : Fin 256) (d : Fin 2048) (q : Fin 17)
    (hq : n (ix2 a i) = BitVec.ofNat 32 q.val) : picked l n (ix3 a i d) = l (ix2 q d) := by
  unfold picked Host.gather
  refine congrArg l (funext fun b => Fin.ext ?_)
  match b with
  | ⟨0, _⟩ =>
    have hs : gather_S17x2048_S256x256x1_S256x256x2048_2_0_n_n_0_2_12048.start (ix3 a i d) (rows n) 0
        = min (rows n (ix3 a i (0 : Fin 1))).toInt.toNat 16 := by
      have hm : (0 : Fin 2) ∈ gather_S17x2048_S256x256x1_S256x256x2048_2_0_n_n_0_2_12048.startIndexMap := List.mem_singleton.2 rfl
      unfold GatherDims.start
      rw [dif_pos hm]
      refine congrArg (fun z => min (rows n z).toInt.toNat 16) (funext fun p => ?_)
      match p with | ⟨0, _⟩ => rfl | ⟨1, _⟩ => rfl | ⟨2, _⟩ => rfl
    show gather_S17x2048_S256x256x1_S256x256x2048_2_0_n_n_0_2_12048.start (ix3 a i d) (rows n) 0 + 0 + 0 = q.val
    rw [hs, rows_apply n a i q hq]
    clear hs hq
    revert q
    decide
  | ⟨1, _⟩ => show 0 + 0 + d.val = d.val; omega

/-- The sums at an index. -/
theorem sums_apply (p : FVec Ideal S256x256x2048 .f32) (w : FVec Ideal S256x2048 .f32) (a : Fin 256) (d : Fin 2048) :
    sums p w (ix2 a d) = ∑ i : Fin 256, p (ix3 a i d) * w (ix2 i d) := by
  pointwise [sums]

/-- The last stage at an index. -/
theorem last_apply (s r : FVec Ideal S256x2048 .f32) (a : Fin 256) (d : Fin 2048) :
    last s r (ix2 a d) = finish (s (ix2 a d)) (r (ix2 a d)) := by
  pointwise [last]
  simp only [neg_one_val]
  rfl

/-- The reference's stages put together, at an index, when the boundaries are at their places. -/
theorem stages_apply (x : FVec Ideal S256x256 .f32) (r w : FVec Ideal S256x2048 .f32) (l : FVec Ideal S17x2048 .f32)
    (e : FVec Ideal S16 .f32) (he : ∀ k : Fin 16, e (ix1 k) = edge k) (a : Fin 256) (d : Fin 2048) :
    last (sums (picked l (counts x e)) w) r (ix2 a d)
      = finish (∑ i : Fin 256, l (ix2 (bin (x (ix2 a i))) d) * w (ix2 i d)) (r (ix2 a d)) := by
  rw [last_apply, sums_apply]
  refine congrArg (finish · _) (Finset.sum_congr rfl fun i _ => ?_)
  rw [picked_apply _ _ a i d _ (counts_apply _ _ he a i)]

end Cert.Proof

end
-- ==== Proof.Tables.lean ====
/- What the precondition says: every entry of the level table is 1 or -1, and the boundaries are at -1 + k/8. -/
module

public import proofs.«01_k».proof.Proof.Gen.Pre_fixed_tables
public import proofs.«01_k».proof.Proof.Bins
public import Idealize.ShloMosaic.Lib.ReduceAll

@[expose] public section

set_option maxRecDepth 16384

noncomputable section

namespace Cert.Proof

open Idealize.ShloMosaic
open Cert.Pre_fixed_tables

/-- A word of one bit made by `and` is 1 only if both sides are. -/
theorem and_one (p q : BitVec 1) (h : p &&& q = 1#1) : p = 1#1 ∧ q = 1#1 := by
  revert p q; decide

/-- A truth value as a one-bit word is 1 exactly where it holds. -/
theorem bit_one (p : Prop) [Decidable p] : BitVec.ofBool (decide p) = 1#1 ↔ p := by
  by_cases h : p <;> simp [h]

/-- The two truth values of an `or` as one-bit words: the result is 1 only if one of them holds. -/
theorem or_one (p q : Prop) [Decidable p] [Decidable q]
    (h : IntOp.ori (BitVec.ofBool (decide p)) (BitVec.ofBool (decide q)) = 1#1) : p ∨ q := by
  by_cases hp : p
  · exact Or.inl hp
  · by_cases hq : q
    · exact Or.inr hq
    · simp [hp, hq, IntOp.ori] at h

/-- The boundary the precondition computes for `k` is -1 + k/8. -/
theorem boundary_val (k : Fin 16) :
    Ideal.ofBits .f32 0xBF800000#32 + (FloatOps.sitofp .f32 (BitVec.ofNat 32 k.val) : Ideal .f32) * Ideal.ofBits .f32 0x3E000000#32
      = edge k := by
  have hk : (BitVec.ofNat 32 k.val).toInt = (k.val : ℤ) := by revert k; decide
  rw [show (FloatOps.sitofp .f32 (BitVec.ofNat 32 k.val) : Ideal .f32) = (((BitVec.ofNat 32 k.val).toInt : ℝ) : EReal) from rfl,
    hk, neg_one_val, neg_one_coe, eighth_val, edge, ← EReal.coe_mul, ← EReal.coe_add]
  congr 1
  push_cast
  ring

/-- The precondition read: the level table holds only 1 and -1, and boundary `k` is -1 + k/8. -/
theorem tables_of_pre (x : FVec Ideal S256x256 .f32) (r w : FVec Ideal S256x2048 .f32) (l : FVec Ideal S17x2048 .f32)
    (e : FVec Ideal S16 .f32) (h : fn x r w l e = fun _ => 1#1) :
    (∀ (q : Fin 17) (d : Fin 2048), l (ix2 q d) = 1 ∨ l (ix2 q d) = -1) ∧ ∀ k : Fin 16, e (ix1 k) = edge k := by
  haveI : Subsingleton S_.Idx := ⟨fun a b => funext fun i => i.elim0⟩
  obtain ⟨h1, h2⟩ := and_one _ _ (congrFun h fun a => a.elim0)
  refine ⟨fun q d => ?_, fun k => ?_⟩
  · have h3 := Host.reduce_andi_all _ _ _ _ _ h1 (ix2 q d)
    revert h3
    pointwise
    rw [← neg_one_val]
    exact or_one _ _
  · have h3 := Host.reduce_andi_all _ _ _ _ _ h2 (ix1 k)
    revert h3
    pointwise
    rw [boundary_val, bit_one]
    exact fun h => h

end Cert.Proof

end
-- ==== Proof.Equation.lean ====
/- The equation of the claim: what the kernel leaves and what the reference returns are one array, under the
   precondition on the tables. -/
module

public import proofs.«01_k».proof.Proof.Array
public import proofs.«01_k».proof.Proof.Reference
public import proofs.«01_k».proof.Proof.Tables

@[expose] public section

noncomputable section

namespace Cert.Proof

open Idealize.ShloMosaic

/-- Giving a weight the sign of an entry that is 1 or -1 is multiplying it by the entry. -/
theorem signedBy_eq_mul (l w : EReal) (h : l = 1 ∨ l = -1) : signedBy l w = l * w := by
  rcases h with rfl | rfl
  · rw [signedBy, if_neg (not_lt.2 zero_le_one), one_mul]
  · rw [signedBy, if_pos (by rw [neg_one_coe, ← EReal.coe_zero, EReal.coe_lt_coe_iff]; norm_num), zero_sub, neg_mul, one_mul]

/-- The kernel's result is the reference's, when the level table holds only 1 and -1 and the boundaries are at their places. -/
theorem spec_eq (x : FVec Ideal Cert.KernelIdeal.S256x256 .f32) (r w : FVec Ideal Cert.KernelIdeal.S256x2048 .f32)
    (l : FVec Ideal Cert.KernelIdeal.S17x2048 .f32) (e : FVec Ideal Cert.ReferenceIdeal.S16 .f32)
    (hl : ∀ (q : Fin 17) (d : Fin 2048), l (ix2 q d) = 1 ∨ l (ix2 q d) = -1) (he : ∀ k : Fin 16, e (ix1 k) = edge k) :
    spec x r w l = last (sums (picked l (counts x e)) w) r := by
  funext j
  obtain ⟨a, d, rfl⟩ := exists_pair (p := 256) (q := 2048) j
  rw [stages_apply x r w l e he]
  refine congrArg (finish · _) (Finset.sum_congr rfl fun i _ => ?_)
  exact signedBy_eq_mul _ _ (hl _ _)

end Cert.Proof

end
-- ==== Proof.lean ====
/- The claims put together: the three programs run and leave their arguments unchanged; the idealized kernel differs
   from the kernel only by the sign test; and the idealized kernel and the reference end with equal results, when the
   level table holds only 1 and -1 and the boundaries are at -1 + k/8. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_fixed_tables
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged and has no semaphore to leave raised. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments that satisfy the precondition, the kernel's result is the reference's. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_fixed_tables m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_out0 m' c = result m c := by
  obtain ⟨h0, h1, h2, h3, h4⟩ := h
  obtain ⟨hl, he⟩ := tables_of_pre _ _ _ _ _ (hp c)
  rw [reference_eq, h0, h1, h2, h3, h4]
  exact (spec_eq _ _ _ _ _ hl he).symm

/-- The idealized kernel and the reference end with equal results from equal arguments, under the precondition. -/
theorem equal_results : Cert.algebraic_KernelIdeal_ReferenceIdeal_pre_fixed_tables := by
  intro m ρ m' ρ' hp hagree
  refine ⟨fun c => result m c, ?_, ?_⟩
  · exact (θ_run Cert.KernelIdeal.defs _ _).mono (fun _ h c => ⟨(h c).1.trans (final_result m c), (h c).2⟩)
      (Cert.KernelIdeal.Value.run_blocks (F := Ideal) m ρ)
  · exact (θ_run Cert.ReferenceIdeal.defs _ _).mono
      (fun _ h c => ⟨(h c).1.trans (results_agree m m' hp c (hagree c)), (h c).2⟩)
      (Cert.ReferenceIdeal.Value.run (F := Ideal) m' ρ')

/-- Everything claimed. -/
theorem claim : Cert.Claim :=
  ⟨Cert.Kernel.Gen.facts, Cert.KernelIdeal.Gen.facts, Cert.ReferenceIdeal.Gen.facts, Cert.Pre_fixed_tables.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    IdealRules.sign_bit.maskStatement _ _, equal_results⟩

end Cert.Proof

end
